-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_edges_increase [hPre_edges_increase : Cert.Pre_edges_increase.Facts] (m : (ℓ : Loc Cert.KernelIdeal.nD Cert.KernelIdeal.τ Cert.KernelIdeal.sig) → Buf (Elt Ideal) ℓ) : Prop :=
  ∀ c : Dev Cert.KernelIdeal.nD,
    (Cert.Pre_edges_increase.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_increase [hPre_edges_increase : Cert.Pre_edges_increase.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_increase.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_edges_increase [hKernelIdeal : Cert.KernelIdeal.Facts] [hPre_edges_increase : Cert.Pre_edges_increase.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_increase m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_edges_increase [hReferenceIdeal : Cert.ReferenceIdeal.Facts] [hPre_edges_increase : Cert.Pre_edges_increase.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_increase m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_edges_increase [hKernelIdeal : Cert.KernelIdeal.Facts] [hReferenceIdeal : Cert.ReferenceIdeal.Facts] [hPre_edges_increase : Cert.Pre_edges_increase.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_increase m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_edges_increase : Cert.Pre_edges_increase.Facts),
    quiescent_Kernel (hKernel := hKernel)
    ∧ quiescent_KernelIdeal (hKernelIdeal := hKernelIdeal)
    ∧ quiescent_KernelIdeal_pre_edges_increase (hKernelIdeal := hKernelIdeal) (hPre_edges_increase := hPre_edges_increase)
    ∧ quiescent_ReferenceIdeal (hReferenceIdeal := hReferenceIdeal)
    ∧ quiescent_ReferenceIdeal_pre_edges_increase (hReferenceIdeal := hReferenceIdeal) (hPre_edges_increase := hPre_edges_increase)
    ∧ preserves_Kernel_KernelIdeal
    ∧ algebraic_KernelIdeal_ReferenceIdeal_pre_edges_increase (hKernelIdeal := hKernelIdeal) (hReferenceIdeal := hReferenceIdeal) (hPre_edges_increase := hPre_edges_increase)
-- ==== Pre_edges_increase.lean ====
abbrev S256x32x128 : Shape := ⟨3, ![256, 32, 128]⟩
abbrev S32x33 : Shape := ⟨2, ![32, 33]⟩
abbrev S32x32 : Shape := ⟨2, ![32, 32]⟩
abbrev S_ : Shape := ⟨0, ![]⟩
abbrev S32x1 : Shape := ⟨2, ![32, 1]⟩
abbrev S32 : Shape := ⟨1, ![32]⟩

class Facts : Prop where
  slices_S32x33_S32x32_0_0 : S32x33.Slices ![0, 0] S32x32
  slices_S32x33_S32x32_0_1 : S32x33.Slices ![0, 1] S32x32
  reducesTo_S32x32_S_d0_1 : S32x32.ReducesTo [0, 1] S_
  h_S_ : 0 < S_.numel
  slices_S32x33_S32x1_0_0 : S32x33.Slices ![0, 0] S32x1
  shapeCasts_S32x1_S32 : S32x1.ShapeCasts S32
  bcast_S_S32 : S_.BroadcastsInDim S32 (![] : Fin 0 → Fin S32.rank)
  reducesTo_S32_S_d0 : S32.ReducesTo [0] S_

variable [Facts]

def fn {F : FTy → Type} [FloatOps F] (main_arg0 : FVec F S256x32x128 .f32) (main_arg1 : FVec F S32x33 .f32) : IVec S_ 1 :=
  let main_v0 : FVec F S32x32 .f32 := (extractStridedSlice S32x32 ![0, 0] · slices_S32x33_S32x32_0_0) main_arg1
  let main_v1 : FVec F S32x32 .f32 := (extractStridedSlice S32x32 ![0, 1] · slices_S32x33_S32x32_0_1) main_arg1
  let main_v2 : IVec S32x32 1 := cmpf .olt main_v0 main_v1
  let main_c : IVec S_ 1 := constantI S_ 1 1#1
  let main_v3 : IVec S_ 1 := (fun x v => Host.reduce IntOp.andi x v reducesTo_S32x32_S_d0_1 h_S_) main_v2 main_c
  let main_v4 : FVec F S32x1 .f32 := (extractStridedSlice S32x1 ![0, 0] · slices_S32x33_S32x1_0_0) main_arg1
  let main_v5 : FVec F S32 .f32 := shapeCast S32 main_v4 shapeCasts_S32x1_S32
  let main_cst : FVec F S_ .f32 := constant S_ .f32 0xFF800000#32
  let main_v6 : FVec F S32 .f32 := broadcastInDim S32 ![] bcast_S_S32 main_cst
  let main_v7 : IVec S32 1 := cmpf .ogt main_v5 main_v6
  let main_c_0 : IVec S_ 1 := constantI S_ 1 1#1
  let main_v8 : IVec S_ 1 := (fun x v => Host.reduce IntOp.andi x v reducesTo_S32_S_d0 h_S_) main_v7 main_c_0
  let main_v9 : IVec S_ 1 := andi main_v3 main_v8
  main_v9
-- ==== Kernel.lean ====
abbrev S256x32x128 : Shape := ⟨3, ![256, 32, 128]⟩
abbrev S32x33 : Shape := ⟨2, ![32, 33]⟩
abbrev S32x32 : Shape := ⟨2, ![32, 32]⟩
abbrev S_ : Shape := ⟨0, ![]⟩
abbrev S32 : Shape := ⟨1, ![32]⟩
abbrev S1x32 : Shape := ⟨2, ![1, 32]⟩
abbrev S32x1 : Shape := ⟨2, ![32, 1]⟩
abbrev S32x32x1 : Shape := ⟨3, ![32, 32, 1]⟩
abbrev S256x32x32x128 : Shape := ⟨4, ![256, 32, 32, 128]⟩
abbrev S4x32x128 : Shape := ⟨3, ![4, 32, 128]⟩
abbrev S4x32x32x128 : Shape := ⟨4, ![4, 32, 32, 128]⟩
abbrev S4x32x1x128 : Shape := ⟨4, ![4, 32, 1, 128]⟩
abbrev S1x32x32x1 : Shape := ⟨4, ![1, 32, 32, 1]⟩
abbrev S256x1024x128 : Shape := ⟨3, ![256, 1024, 128]⟩

abbrev nBuf : Space → Nat
  | .hbm => 46
  | .vmem => 8
  | .smem => 0
  | _ => 0

abbrev bufTy : (tb : Table) → Fin (tcTables nBuf tb) → BufTy
  | .hbm, ⟨0, _⟩ => ⟨S256x32x128, .f32⟩
  | .hbm, ⟨1, _⟩ => ⟨S32x33, .f32⟩
  | .hbm, ⟨2, _⟩ => ⟨S32x32, .f32⟩
  | .hbm, ⟨3, _⟩ => ⟨S32x32, .f32⟩
  | .hbm, ⟨4, _⟩ => ⟨S32x32, .f32⟩
  | .hbm, ⟨5, _⟩ => ⟨S32x32, .f32⟩
  | .hbm, ⟨6, _⟩ => ⟨S_, .f32⟩
  | .hbm, ⟨7, _⟩ => ⟨S32x32, .f32⟩
  | .hbm, ⟨8, _⟩ => ⟨S32x32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .i1⟩
  | .hbm, ⟨13, _⟩ => ⟨S_, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S1x32, .f32⟩
  | .hbm, ⟨19, _⟩ => ⟨S_, .f32⟩
  | .hbm, ⟨20, _⟩ => ⟨S32x1, .f32⟩
  | .hbm, ⟨21, _⟩ => ⟨S1x32, .f32⟩
  | .hbm, ⟨22, _⟩ => ⟨S32x32, .f32⟩
  | .hbm, ⟨23, _⟩ => ⟨S32x32, .f32⟩
  | .hbm, ⟨24, _⟩ => ⟨S32x32, .f32⟩
  | .hbm, ⟨25, _⟩ => ⟨S_, .f32⟩
  | .hbm, ⟨26, _⟩ => ⟨S32, .f32⟩
  | .hbm, ⟨27, _⟩ => ⟨S32, .i1⟩
  | .hbm, ⟨28, _⟩ => ⟨S_, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S32, .f32⟩
  | .hbm, ⟨33, _⟩ => ⟨S1x32, .f32⟩
  | .hbm, ⟨34, _⟩ => ⟨S_, .f32⟩
  | .hbm, ⟨35, _⟩ => ⟨S32x1, .f32⟩
  | .hbm, ⟨36, _⟩ => ⟨S1x32, .f32⟩
  | .hbm, ⟨37, _⟩ => ⟨S32x32, .f32⟩
  | .hbm, ⟨38, _⟩ => ⟨S32x32, .f32⟩
  | .hbm, ⟨39, _⟩ => ⟨S32x32, .f32⟩
  | .hbm, ⟨40, _⟩ => ⟨S32x32x1, .f32⟩
  | .hbm, ⟨41, _⟩ => ⟨S32x32x1, .f32⟩
  | .hbm, ⟨42, _⟩ => ⟨S32x32x1, .f32⟩
  | .hbm, ⟨43, _⟩ => ⟨S32x32x1, .f32⟩
  | .hbm, ⟨44, _⟩ => ⟨S256x32x32x128, .f32⟩
  | .hbm, ⟨45, _⟩ => ⟨S256x1024x128, .f32⟩
  | .local _ .vmem, ⟨0, _⟩ => ⟨S4x32x128, .f32⟩
  | .local _ .vmem, ⟨1, _⟩ => ⟨S4x32x128, .f32⟩
  | .local _ .vmem, ⟨2, _⟩ => ⟨S32x32x1, .f32⟩
  | .local _ .vmem, ⟨3, _⟩ => ⟨S32x32x1, .f32⟩
  | .local _ .vmem, ⟨4, _⟩ => ⟨S32x32x1, .f32⟩
  | .local _ .vmem, ⟨5, _⟩ => ⟨S32x32x1, .f32⟩
  | .local _ .vmem, ⟨6, _⟩ => ⟨S4x32x32x128, .f32⟩
  | .local _ .vmem, ⟨7, _⟩ => ⟨S4x32x32x128, .f32⟩
  | _, _ => ⟨S256x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_cst_6 : Ref sig .tc := ⟨.hbm, 29, rfl⟩
abbrev main_call1_v0 : Ref sig .tc := ⟨.hbm, 30, rfl⟩
abbrev main_call1_v1 : Ref sig .tc := ⟨.hbm, 31, rfl⟩
abbrev main_v18 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x32x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S256x32x128 : Shape := ⟨3, ![256, 32, 128]⟩
abbrev S32x33 : Shape := ⟨2, ![32, 33]⟩
abbrev S256x128x32 : Shape := ⟨3, ![256, 128, 32]⟩
abbrev S32768x32 : Shape := ⟨2, ![32768, 32]⟩
abbrev S32x31 : Shape := ⟨2, ![32, 31]⟩
abbrev S32x1x31 : Shape := ⟨3, ![32, 1, 31]⟩
abbrev S32x32768 : Shape := ⟨2, ![32, 32768]⟩
abbrev S32x32768x1 : Shape := ⟨3, ![32, 32768, 1]⟩
abbrev S32x32768x31 : Shape := ⟨3, ![32, 32768, 31]⟩
abbrev S_ : Shape := ⟨0, ![]⟩
abbrev S32x32 : Shape := ⟨2, ![32, 32]⟩
abbrev S32768x32x1 : Shape := ⟨3, ![32768, 32, 1]⟩
abbrev S1x1x32 : Shape := ⟨3, ![1, 1, 32]⟩
abbrev S32768x32x32 : Shape := ⟨3, ![32768, 32, 32]⟩
abbrev S32 : Shape := ⟨1, ![32]⟩
abbrev S256x128x1024 : Shape := ⟨3, ![256, 128, 1024]⟩
abbrev S256x1024x128 : Shape := ⟨3, ![256, 1024, 128]⟩

abbrev nBuf : Space → Nat
  | .hbm => 63
  | .vmem => 0
  | .smem => 0
  | _ => 0

abbrev bufTy : (tb : Table) → Fin (tcTables nBuf tb) → BufTy
  | .hbm, ⟨0, _⟩ => ⟨S256x32x128, .f32⟩
  | .hbm, ⟨1, _⟩ => ⟨S32x33, .f32⟩
  | .hbm, ⟨2, _⟩ => ⟨S256x128x32, .f32⟩
  | .hbm, ⟨3, _⟩ => ⟨S32768x32, .f32⟩
  | .hbm, ⟨4, _⟩ => ⟨S32x31, .f32⟩
  | .hbm, ⟨5, _⟩ => ⟨S32x1x31, .f32⟩
  | .hbm, ⟨6, _⟩ => ⟨S32x32768, .f32⟩
  | .hbm, ⟨7, _⟩ => ⟨S32x32768x1, .f32⟩
  | .hbm, ⟨8, _⟩ => ⟨S32x32768x31, .f32⟩
  | .hbm, ⟨9, _⟩ => ⟨S32x32768x31, .f32⟩
  | .hbm, ⟨10, _⟩ => ⟨S32x32768x31, .i1⟩
  | .hbm, ⟨11, _⟩ => ⟨S32x32768x31, .i32⟩
  | .hbm, ⟨12, _⟩ => ⟨S_, .i32⟩
  | .hbm, ⟨13, _⟩ => ⟨S32x32768, .i32⟩
  | .hbm, ⟨14, _⟩ => ⟨S32768x32, .i32⟩
  | .hbm, ⟨15, _⟩ => ⟨S32x32, .f32⟩
  | .hbm, ⟨16, _⟩ => ⟨S32x32, .f32⟩
  | .hbm, ⟨17, _⟩ => ⟨S32x32, .f32⟩
  | .hbm, ⟨18, _⟩ => ⟨S_, .i32⟩
  | .hbm, ⟨19, _⟩ => ⟨S32768x32, .i32⟩
  | .hbm, ⟨20, _⟩ => ⟨S32768x32, .i1⟩
  | .hbm, ⟨21, _⟩ => ⟨S_, .i32⟩
  | .hbm, ⟨22, _⟩ => ⟨S32768x32, .i32⟩
  | .hbm, ⟨23, _⟩ => ⟨S32768x32, .i32⟩
  | .hbm, ⟨24, _⟩ => ⟨S32768x32, .i32⟩
  | .hbm, ⟨25, _⟩ => ⟨S32x32768, .i32⟩
  | .hbm, ⟨26, _⟩ => ⟨S32x32768x1, .i32⟩
  | .hbm, ⟨27, _⟩ => ⟨S32x32768, .f32⟩
  | .hbm, ⟨28, _⟩ => ⟨S32x32768, .f32⟩
  | .hbm, ⟨29, _⟩ => ⟨S32x32768, .f32⟩
  | .hbm, ⟨30, _⟩ => ⟨S_, .i32⟩
  | .hbm, ⟨31, _⟩ => ⟨S32768x32, .i32⟩
  | .hbm, ⟨32, _⟩ => ⟨S32768x32, .i1⟩
  | .hbm, ⟨33, _⟩ => ⟨S_, .i32⟩
  | .hbm, ⟨34, _⟩ => ⟨S32768x32, .i32⟩
  | .hbm, ⟨35, _⟩ => ⟨S32768x32, .i32⟩
  | .hbm, ⟨36, _⟩ => ⟨S32768x32, .i32⟩
  | .hbm, ⟨37, _⟩ => ⟨S32x32768, .i32⟩
  | .hbm, ⟨38, _⟩ => ⟨S32x32768x1, .i32⟩
  | .hbm, ⟨39, _⟩ => ⟨S32x32768, .f32⟩
  | .hbm, ⟨40, _⟩ => ⟨S32x32768, .f32⟩
  | .hbm, ⟨41, _⟩ => ⟨S32768x32, .f32⟩
  | .hbm, ⟨42, _⟩ => ⟨S32768x32x1, .i32⟩
  | .hbm, ⟨43, _⟩ => ⟨S1x1x32, .i32⟩
  | .hbm, ⟨44, _⟩ => ⟨S32768x32x32, .i32⟩
  | .hbm, ⟨45, _⟩ => ⟨S32768x32x32, .i32⟩
  | .hbm, ⟨46, _⟩ => ⟨S32768x32x32, .i1⟩
  | .hbm, ⟨47, _⟩ => ⟨S32768x32x32, .f32⟩
  | .hbm, ⟨48, _⟩ => ⟨S32768x32x1, .f32⟩
  | .hbm, ⟨49, _⟩ => ⟨S32768x32x32, .f32⟩
  | .hbm, ⟨50, _⟩ => ⟨S32768x32x32, .f32⟩
  | .hbm, ⟨51, _⟩ => ⟨S32, .i32⟩
  | .hbm, ⟨52, _⟩ => ⟨S1x1x32, .i32⟩
  | .hbm, ⟨53, _⟩ => ⟨S32768x32x1, .i32⟩
  | .hbm, ⟨54, _⟩ => ⟨S32768x32x32, .i32⟩
  | .hbm, ⟨55, _⟩ => ⟨S32768x32x32, .i32⟩
  | .hbm, ⟨56, _⟩ => ⟨S32768x32x32, .i1⟩
  | .hbm, ⟨57, _⟩ => ⟨S_, .f32⟩
  | .hbm, ⟨58, _⟩ => ⟨S_, .f32⟩
  | .hbm, ⟨59, _⟩ => ⟨S32768x32x32, .f32⟩
  | .hbm, ⟨60, _⟩ => ⟨S32768x32x32, .f32⟩
  | .hbm, ⟨61, _⟩ => ⟨S256x128x1024, .f32⟩
  | .hbm, ⟨62, _⟩ => ⟨S256x1024x128, .f32⟩
  | _, _ => ⟨S256x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_v15 : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c_2 : Ref sig .tc := ⟨.hbm, 30, rfl⟩
abbrev main_v25 : Ref sig .tc := ⟨.hbm, 31, rfl⟩
abbrev main_v26 : Ref sig .tc := ⟨.hbm, 32, rfl⟩
abbrev main_c_3 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst : Ref sig .tc := ⟨.hbm, 57, rfl⟩
abbrev main_call1_v0 : Ref sig .tc := ⟨.hbm, 58, rfl⟩
abbrev main_call1_v1 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Proof.Encode.lean ====
/-
  The mathematics of the encoding, over the extended reals and for one sample of one feature: `clamped` is the formula
  the kernel evaluates at a bin, `digitised` is the formula the reference evaluates there, and `clamped_eq_digitised`
  says they agree when the feature's edges increase strictly and the first is above minus infinity.
-/
module

public import Idealize.ShloMosaic.PureOps.Ideal
public import Mathlib.Order.Fin.Basic
public import Mathlib.Order.Interval.Finset.Fin

@[expose] public section

noncomputable section

namespace Cert.Encode

open Idealize.ShloMosaic

/-- The bin a sample falls in: how many of the 31 inner edges are at most the sample. -/
def bin (e : Fin 33 → EReal) (x : EReal) : ℕ :=
  (Finset.univ.filter fun i : Fin 31 => e i.castSucc.succ ≤ x).card

theorem bin_lt (e : Fin 33 → EReal) (x : EReal) : bin e x < 32 :=
  Nat.lt_succ_of_le ((Finset.card_le_univ _).trans (by simp))

/-- The bin of a sample as an index of the 32 bins. -/
def binIdx (e : Fin 33 → EReal) (x : EReal) : Fin 32 := ⟨bin e x, bin_lt e x⟩

/-- The kernel's formula at bin `j`: the bin's linear form, by the reciprocal of the bin's size, clamped below by
    nothing in the first bin and by 0 elsewhere, and above by nothing in the last bin and by 1 elsewhere. -/
def clamped (e : Fin 33 → EReal) (x : EReal) (j : Fin 32) : EReal :=
  min (max ((x - e j.castSucc) * Ideal.div 1 (e j.succ - e j.castSucc)) (if j.val = 0 then ⊥ else 0))
    (if j.val = 31 then ⊤ else 1)

/-- The reference's formula at bin `j`: 1 before the sample's bin, the sample's position within its bin there, and 0
    after it (the position multiplied by the mask of the bin). -/
def digitised (e : Fin 33 → EReal) (x : EReal) (j : Fin 32) : EReal :=
  if j.val < bin e x then 1
  else (if bin e x = j.val then 1 else 0)
    * Ideal.div (x - e (binIdx e x).castSucc) (e (binIdx e x).succ - e (binIdx e x).castSucc)

/-- When the edges increase, the inner edges at most the sample are an initial segment, of length the bin. -/
theorem le_iff_lt_bin {e : Fin 33 → EReal} (he : StrictMono e) (x : EReal) (i : Fin 31) :
    e i.castSucc.succ ≤ x ↔ i.val < bin e x := by
  unfold bin
  constructor
  · intro h
    have hs : Finset.Iic i ⊆ Finset.univ.filter fun i : Fin 31 => e i.castSucc.succ ≤ x := by
      intro k hk
      refine Finset.mem_filter.2 ⟨Finset.mem_univ _, le_trans (he.monotone ?_) h⟩
      have := Finset.mem_Iic.1 hk
      simpa using this
    have := Finset.card_le_card hs
    rw [Fin.card_Iic] at this
    omega
  · intro h
    by_contra hn
    have hs : (Finset.univ.filter fun i : Fin 31 => e i.castSucc.succ ≤ x) ⊆ Finset.Iio i := by
      intro k hk
      refine Finset.mem_Iio.2 ?_
      by_contra hki
      refine hn (le_trans (he.monotone ?_) (Finset.mem_filter.1 hk).2)
      simpa using hki
    have := Finset.card_le_card hs
    rw [Fin.card_Iio] at this
    omega

/-- Division by a size that is not 0 is multiplication by its reciprocal. -/
theorem div_eq_mul_div_one {d : EReal} (hd : d ≠ 0) (s : EReal) : Ideal.div s d = s * Ideal.div 1 d := by
  unfold Ideal.div
  rw [if_neg hd, if_neg hd, one_mul]

/-- The 32 lower edges are real. -/
theorem exists_real {e : Fin 33 → EReal} (he : StrictMono e) (h0 : ⊥ < e 0) (j : Fin 32) :
    ∃ r : ℝ, e j.castSucc = r := by
  have h1 : e j.castSucc ≠ ⊤ := ne_top_of_lt (he j.castSucc_lt_succ)
  have h2 : e j.castSucc ≠ ⊥ := ne_bot_of_gt (lt_of_lt_of_le h0 (he.monotone (Fin.zero_le _)))
  exact ⟨(e j.castSucc).toReal, (EReal.coe_toReal h1 h2).symm⟩

/-- A bin's size is positive. -/
theorem size_pos {e : Fin 33 → EReal} (he : StrictMono e) (h0 : ⊥ < e 0) (j : Fin 32) :
    0 < e j.succ - e j.castSucc := by
  have h := he j.castSucc_lt_succ
  obtain ⟨r, hr⟩ := exists_real he h0 j
  rw [hr] at h ⊢
  exact EReal.sub_pos.2 h

/-- The reciprocal of a bin's size is at least 0. -/
theorem recip_nonneg {d : EReal} (hd : 0 < d) : 0 ≤ Ideal.div 1 d := by
  unfold Ideal.div
  rw [if_neg hd.ne', one_mul]
  exact EReal.inv_nonneg_of_nonneg hd.le

/-- A real size times its reciprocal is 1. -/
theorem size_mul_recip {d : ℝ} (hd : 0 < d) : (d : EReal) * Ideal.div 1 d = 1 := by
  unfold Ideal.div
  rw [if_neg (by exact_mod_cast hd.ne'), one_mul, ← EReal.coe_inv, ← EReal.coe_mul, mul_inv_cancel₀ hd.ne', EReal.coe_one]

/-- At every bin but the last, a sample at or above the bin's upper edge has linear form at least 1. -/
theorem one_le_form {e : Fin 33 → EReal} (he : StrictMono e) (h0 : ⊥ < e 0) {x : EReal} (i : Fin 31)
    (h : e i.castSucc.succ ≤ x) :
    1 ≤ (x - e i.castSucc.castSucc) * Ideal.div 1 (e i.castSucc.succ - e i.castSucc.castSucc) := by
  have hp := size_pos he h0 i.castSucc
  obtain ⟨a, ha⟩ := exists_real he h0 i.castSucc
  obtain ⟨b, hb⟩ := exists_real he h0 i.succ
  rw [Fin.castSucc_succ] at hb
  have hs : e i.castSucc.succ - e i.castSucc.castSucc = ((b - a : ℝ) : EReal) := by rw [ha, hb, EReal.coe_sub]
  rw [hs] at hp ⊢
  have hp' : 0 < b - a := by exact_mod_cast hp
  refine (size_mul_recip hp').symm.le.trans (mul_le_mul_of_nonneg_right ?_ (recip_nonneg hp))
  rw [← hs]
  exact EReal.sub_le_sub h le_rfl

/-- At every bin but the last, a sample at or below the bin's upper edge has linear form at most 1. -/
theorem form_le_one {e : Fin 33 → EReal} (he : StrictMono e) (h0 : ⊥ < e 0) {x : EReal} (i : Fin 31)
    (h : x ≤ e i.castSucc.succ) :
    (x - e i.castSucc.castSucc) * Ideal.div 1 (e i.castSucc.succ - e i.castSucc.castSucc) ≤ 1 := by
  have hp := size_pos he h0 i.castSucc
  obtain ⟨a, ha⟩ := exists_real he h0 i.castSucc
  obtain ⟨b, hb⟩ := exists_real he h0 i.succ
  rw [Fin.castSucc_succ] at hb
  have hs : e i.castSucc.succ - e i.castSucc.castSucc = ((b - a : ℝ) : EReal) := by rw [ha, hb, EReal.coe_sub]
  rw [hs] at hp ⊢
  have hp' : 0 < b - a := by exact_mod_cast hp
  refine (mul_le_mul_of_nonneg_right ?_ (recip_nonneg hp)).trans (size_mul_recip hp').le
  rw [← hs]
  exact EReal.sub_le_sub h le_rfl

/-- A sample at or above a bin's lower edge has linear form at least 0. -/
theorem form_nonneg {e : Fin 33 → EReal} (he : StrictMono e) (h0 : ⊥ < e 0) {x : EReal} (j : Fin 32)
    (h : e j.castSucc ≤ x) : 0 ≤ (x - e j.castSucc) * Ideal.div 1 (e j.succ - e j.castSucc) := by
  have hp := size_pos he h0 j
  obtain ⟨a, ha⟩ := exists_real he h0 j
  refine mul_nonneg ?_ (recip_nonneg hp)
  rw [ha] at h ⊢
  exact (EReal.sub_nonneg (Or.inr (EReal.coe_ne_top _)) (Or.inr (EReal.coe_ne_bot _))).2 h

/-- A sample at or below a bin's lower edge has linear form at most 0. -/
theorem form_nonpos {e : Fin 33 → EReal} (he : StrictMono e) (h0 : ⊥ < e 0) {x : EReal} (j : Fin 32)
    (h : x ≤ e j.castSucc) : (x - e j.castSucc) * Ideal.div 1 (e j.succ - e j.castSucc) ≤ 0 := by
  have hp := size_pos he h0 j
  obtain ⟨a, ha⟩ := exists_real he h0 j
  rw [← zero_mul (Ideal.div 1 (e j.succ - e j.castSucc))]
  refine mul_le_mul_of_nonneg_right ?_ (recip_nonneg hp)
  rw [ha] at h ⊢
  exact EReal.sub_nonpos.2 h

/-- THE ENCODING: where the edges increase strictly from a first edge above minus infinity, the kernel's formula and
    the reference's agree at every bin and every sample, the infinite ones included. -/
theorem clamped_eq_digitised {e : Fin 33 → EReal} (he : StrictMono e) (h0 : ⊥ < e 0) (x : EReal) (j : Fin 32) :
    clamped e x j = digitised e x j := by
  unfold clamped digitised
  have hk := bin_lt e x
  have hj := j.isLt
  by_cases h1 : j.val < bin e x
  · -- before the sample's bin
    have hj31 : j.val < 31 := by omega
    obtain ⟨i, rfl⟩ : ∃ i : Fin 31, j = i.castSucc := ⟨⟨j.val, hj31⟩, rfl⟩
    have hx := one_le_form he h0 i ((le_iff_lt_bin he x i).2 h1)
    rw [if_pos h1, if_neg (show ¬ (i.castSucc.val = 31) by omega)]
    exact min_eq_right (hx.trans (le_max_left _ _))
  · rw [if_neg h1]
    by_cases h2 : bin e x = j.val
    · -- the sample's bin
      have hjk : binIdx e x = j := Fin.ext h2
      rw [if_pos h2, one_mul, hjk, div_eq_mul_div_one (size_pos he h0 j).ne' (x - e j.castSucc)]
      have hlo : (if j.val = 0 then (⊥ : EReal) else 0) ≤ (x - e j.castSucc) * Ideal.div 1 (e j.succ - e j.castSucc) := by
        split_ifs with h3
        · exact bot_le
        · obtain ⟨i, rfl⟩ : ∃ i : Fin 31, j = i.succ := ⟨⟨j.val - 1, by omega⟩, Fin.ext (by simp; omega)⟩
          refine form_nonneg he h0 i.succ ?_
          rw [Fin.castSucc_succ]
          exact (le_iff_lt_bin he x i).2 (by rw [h2]; simp)
      have hhi : (x - e j.castSucc) * Ideal.div 1 (e j.succ - e j.castSucc) ≤ (if j.val = 31 then (⊤ : EReal) else 1) := by
        split_ifs with h3
        · exact le_top
        · obtain ⟨i, rfl⟩ : ∃ i : Fin 31, j = i.castSucc := ⟨⟨j.val, by omega⟩, rfl⟩
          refine form_le_one he h0 i (le_of_lt (lt_of_not_ge fun h => ?_))
          exact h1 ((le_iff_lt_bin he x i).1 h)
      rw [max_eq_left hlo, min_eq_left hhi]
    · -- after the sample's bin
      rw [if_neg h2, zero_mul]
      obtain ⟨i, rfl⟩ : ∃ i : Fin 31, j = i.succ := ⟨⟨j.val - 1, by omega⟩, Fin.ext (by simp; omega)⟩
      have hx : x ≤ e i.succ.castSucc := by
        rw [Fin.castSucc_succ]
        refine le_of_lt (lt_of_not_ge fun h => ?_)
        have := (le_iff_lt_bin he x i).1 h
        have hv : i.succ.val = i.val + 1 := rfl
        omega
      rw [if_neg (show ¬ (i.succ.val = 0) by simp), max_eq_right (form_nonpos he h0 i.succ hx)]
      refine min_eq_left ?_
      split_ifs
      · exact le_top
      · exact zero_le_one

end Cert.Encode

end
-- ==== Proof.Tables.lean ====
/-
  The four tables the kernel's host code builds before the pipelined call, read at an index: the lower edges, the
  reciprocals of the bin widths, and the lower and upper clamps of each bin.
-/
module

public import proofs.«01_k».proof.Proof.Gen.KernelIdeal.Frame
public import Idealize.ShloMosaic.Lib.Pipeline.ValueKit
public import Idealize.ShloMosaic.Lib.ValueIdxCore
public import Idealize.ShloMosaic.PureOps.Ideal

@[expose] public section

set_option maxRecDepth 16384

noncomputable section

namespace Cert.KernelIdeal.KernelValue

open Cert.KernelIdeal Cert.KernelIdeal.Gen Idealize.ShloMosaic.TcCoe Idealize.ShloMosaic.ValueIdx
open Idealize.ShloMosaic hiding ix1 ix2 ix3 ix4

variable (m : (ℓ : Loc nD τ sig) → Buf (Elt Ideal) ℓ)

/-- One feature's edges. -/
def row (x1 : (⟨S32x33, .f32⟩ : BufTy).Contents (Elt Ideal)) (c : Fin 32) : Fin 33 → EReal := fun k => x1 (ix2 c k)

/-- A table with a trailing axis of one, read at an index. -/
theorem column_at {α : Type} (y : S32x32.Idx → α) (c j : Fin 32) :
    broadcastInDim S32x32x1 ![0, 1] bcast_S32x32_S32x32x1_0_1 y (ix3 c j (0 : Fin 1)) = y (ix2 c j) :=
  broadcastInDim_apply _ _ y _ _ fun a => by
    match a with
    | ⟨0, _⟩ => rfl
    | ⟨1, _⟩ => rfl

/-- A scalar spread over a table, read at an index. -/
theorem scalar_at {α : Type} (y : S_.Idx → α) (c j : Fin 32) :
    broadcastInDim S32x32 ![] bcast_S_S32x32 y (ix2 c j) = y (fun a => a.elim0) :=
  broadcastInDim_apply _ _ y _ _ fun a => a.elim0

/-- A scalar spread over the bins, read at a bin. -/
theorem scalar1_at {α : Type} (y : S_.Idx → α) (j : Fin 32) :
    broadcastInDim S32 ![] bcast_S_S32 y (ix1 j) = y (fun a => a.elim0) :=
  broadcastInDim_apply _ _ y _ _ fun a => a.elim0

/-- A row of one entry per bin, spread over the features and multiplied by ones: how the clamps' tables are built. -/
abbrev outer (y : FVec Ideal S32 .f32) : FVec Ideal S32x32 .f32 :=
  mulf (broadcastInDim S32x32 ![0, 1] bcast_S1x32_S32x32_0_1
      (id (broadcastInDim S1x32 ![1] bcast_S32_S1x32_1 y : FVec Ideal S1x32 .f32)) : FVec Ideal S32x32 .f32)
    (broadcastInDim S32x32 ![0, 1] bcast_S32x1_S32x32_0_1
      (broadcastInDim S32x1 ![] bcast_S_S32x1 (constant S_ .f32 0x3F800000#32)))

/-- One entry per bin: `t` on the bin whose number is `w`, `e` on the others. -/
abbrev oneBin (w t e : BitVec 32) : FVec Ideal S32 .f32 :=
  select (cmpf .oeq (sitofp .f32 (iotaInDim S32 32 0) : FVec Ideal S32 .f32) (broadcastInDim S32 ![] bcast_S_S32 (constant S_ .f32 w)))
    (broadcastInDim S32 ![] bcast_S_S32 (constant S_ .f32 t)) (broadcastInDim S32 ![] bcast_S_S32 (constant S_ .f32 e))

/-- The table of lower edges, as the host code writes it. -/
theorem lower_eq (c : Dev nD) : V m c main_v25 = broadcastInDim S32x32x1 ![0, 1] bcast_S32x32_S32x32x1_0_1
    (extractStridedSlice S32x32 ![0, 0] (m ((c : Thread nD τ).loc main_arg1)) slices_S32x33_S32x32_0_0) := by
  simp only [V, V0, hostOps0, hostOps0_1, hostOps0_2, hostOps0_3, hostOps0_4, List.flatten_cons, List.flatten_nil,
    List.append_nil, List.cons_append, List.nil_append]
  after_results
  try rfl

/-- The table of reciprocals, as the host code writes it. -/
theorem recip_eq (c : Dev nD) : V m c main_v26 = broadcastInDim S32x32x1 ![0, 1] bcast_S32x32_S32x32x1_0_1
    (Host.divf (broadcastInDim S32x32 ![] bcast_S_S32x32 (constant S_ .f32 0x3F800000#32))
      (subf (extractStridedSlice S32x32 ![0, 1] (m ((c : Thread nD τ).loc main_arg1)) slices_S32x33_S32x32_0_1)
        (extractStridedSlice S32x32 ![0, 0] (m ((c : Thread nD τ).loc main_arg1)) slices_S32x33_S32x32_0_0) : FVec Ideal S32x32 .f32)) := by
  simp only [V, V0, hostOps0, hostOps0_1, hostOps0_2, hostOps0_3, hostOps0_4, List.flatten_cons, List.flatten_nil,
    List.append_nil, List.cons_append, List.nil_append]
  after_results
  try rfl

/-- The table of lower clamps, as the host code writes it. -/
theorem lowClamp_eq (c : Dev nD) : V m c main_v27 = broadcastInDim S32x32x1 ![0, 1] bcast_S32x32_S32x32x1_0_1
    (outer (oneBin 0x00000000#32 0xFF800000#32 0x00000000#32)) := by
  simp only [V, V0, hostOps0, hostOps0_1, hostOps0_2, hostOps0_3, hostOps0_4, List.flatten_cons, List.flatten_nil,
    List.append_nil, List.cons_append, List.nil_append]
  after_results
  try rfl

/-- The table of upper clamps, as the host code writes it. -/
theorem highClamp_eq (c : Dev nD) : V m c main_v28 = broadcastInDim S32x32x1 ![0, 1] bcast_S32x32_S32x32x1_0_1
    (outer (oneBin 0x41F80000#32 0x7F800000#32 0x3F800000#32)) := by
  simp only [V, V0, hostOps0, hostOps0_1, hostOps0_2, hostOps0_3, hostOps0_4, List.flatten_cons, List.flatten_nil,
    List.append_nil, List.cons_append, List.nil_append]
  after_results
  try rfl

/-- A row of one entry per bin, times a column of ones, read at an index: the bin's entry. -/
theorem outer_at (y : FVec Ideal S32 .f32) (c j : Fin 32) :
    outer y (ix2 c j) = y (ix1 j) := by
  have e1 : broadcastInDim S32x32 ![0, 1] bcast_S1x32_S32x32_0_1
      (id (broadcastInDim S1x32 ![1] bcast_S32_S1x32_1 y : FVec Ideal S1x32 .f32)) (ix2 c j) = y (ix1 j) :=
    (broadcastInDim_apply _ _ _ _ (ix2 (0 : Fin 1) j) fun a => by
      match a with
      | ⟨0, _⟩ => rfl
      | ⟨1, _⟩ => rfl).trans
    (broadcastInDim_apply _ _ y _ (ix1 j) fun a => by
      match a with
      | ⟨0, _⟩ => rfl)
  have e2 : (broadcastInDim S32x32 ![0, 1] bcast_S32x1_S32x32_0_1
      (broadcastInDim S32x1 ![] bcast_S_S32x1 (constant S_ .f32 0x3F800000#32)) : FVec Ideal S32x32 .f32) (ix2 c j) = (1 : EReal) :=
    ((broadcastInDim_apply _ _ _ _ (ix2 c (0 : Fin 1)) fun a => by
      match a with
      | ⟨0, _⟩ => rfl
      | ⟨1, _⟩ => rfl).trans
    (broadcastInDim_apply _ _ _ _ (fun a => a.elim0) fun a => a.elim0)).trans (by
      show Ideal.ofBits .f32 0x3F800000#32 = 1
      simp [Ideal.ofBits, Ideal.ieee, -EReal.coe_mul]; norm_num)
  show (_ : EReal) * _ = _
  rw [e1, e2]
  exact mul_one _

/-- The lower edges of the bins. -/
theorem lower_at (c : Dev nD) (f j : Fin 32) :
    V m c main_v25 (ix3 f j (0 : Fin 1)) = row (m ((c : Thread nD τ).loc main_arg1)) f j.castSucc := by
  rw [lower_eq]
  refine (column_at _ f j).trans ?_
  exact extractStridedSlice_apply _ _ _ _ _ fun a => by
    match a with
    | ⟨0, _⟩ => show f.val = 0 + f.val; omega
    | ⟨1, _⟩ => show j.val = 0 + j.val; omega

/-- The reciprocals of the bins' widths. -/
theorem recip_at (c : Dev nD) (f j : Fin 32) :
    V m c main_v26 (ix3 f j (0 : Fin 1))
      = Ideal.div 1 (row (m ((c : Thread nD τ).loc main_arg1)) f j.succ - row (m ((c : Thread nD τ).loc main_arg1)) f j.castSucc) := by
  rw [recip_eq]
  refine (column_at _ f j).trans ?_
  have e0 : extractStridedSlice S32x32 ![0, 0] (m ((c : Thread nD τ).loc main_arg1)) slices_S32x33_S32x32_0_0 (ix2 f j)
      = row (m ((c : Thread nD τ).loc main_arg1)) f j.castSucc :=
    extractStridedSlice_apply _ _ _ _ _ fun a => by
      match a with
      | ⟨0, _⟩ => show f.val = 0 + f.val; omega
      | ⟨1, _⟩ => show j.val = 0 + j.val; omega
  have e1 : extractStridedSlice S32x32 ![0, 1] (m ((c : Thread nD τ).loc main_arg1)) slices_S32x33_S32x32_0_1 (ix2 f j)
      = row (m ((c : Thread nD τ).loc main_arg1)) f j.succ :=
    extractStridedSlice_apply _ _ _ _ _ fun a => by
      match a with
      | ⟨0, _⟩ => show f.val = 0 + f.val; omega
      | ⟨1, _⟩ => show j.val + 1 = 1 + j.val; omega
  have e2 : (broadcastInDim S32x32 ![] bcast_S_S32x32 (constant S_ .f32 0x3F800000#32) : FVec Ideal S32x32 .f32) (ix2 f j) = (1 : EReal) :=
    (scalar_at _ f j).trans (by
      show Ideal.ofBits .f32 0x3F800000#32 = 1
      simp [Ideal.ofBits, Ideal.ieee, -EReal.coe_mul]; norm_num)
  show Ideal.div _ (_ - _) = _
  rw [e0, e1, e2]

/-- The bins' numbers as reals compared with a bin's number. -/
theorem which_at (w : BitVec 32) (n : ℕ) (hw : (Ideal.ofBits .f32 w : EReal) = ((n : ℝ) : EReal)) (j : Fin 32) :
    cmpf .oeq (sitofp .f32 (iotaInDim S32 32 0) : FVec Ideal S32 .f32) (broadcastInDim S32 ![] bcast_S_S32 (constant S_ .f32 w)) (ix1 j)
      = BitVec.ofBool (decide (j.val = n)) := by
  have e2 : (broadcastInDim S32 ![] bcast_S_S32 (constant S_ .f32 w) : FVec Ideal S32 .f32) (ix1 j) = ((n : ℝ) : EReal) :=
    (scalar1_at _ j).trans hw
  have e1 : (sitofp .f32 (iotaInDim S32 32 0) : FVec Ideal S32 .f32) (ix1 j) = ((j.val : ℝ) : EReal) := by
    show (((BitVec.ofNat 32 j.val).toInt : ℝ) : EReal) = _
    rw [WordCmp.toInt_ofNat_of_lt (by have := j.isLt; omega)]
    simp
  show Ideal.cmp .oeq _ _ = _
  rw [e1, e2]
  show BitVec.ofBool (decide _) = _
  congr 1
  simp

/-- The lower clamps: none on the first bin, zero on the others. -/
theorem lowClamp_at (c : Dev nD) (f j : Fin 32) :
    V m c main_v27 (ix3 f j (0 : Fin 1)) = (if j.val = 0 then ⊥ else 0 : EReal) := by
  rw [lowClamp_eq]
  refine (column_at _ f j).trans ((outer_at _ f j).trans ?_)
  have hz : (Ideal.ofBits .f32 0x00000000#32 : EReal) = 0 := by simp [Ideal.ofBits, Ideal.ieee]
  have hb : (Ideal.ofBits .f32 0xFF800000#32 : EReal) = ⊥ := by simp [Ideal.ofBits, Ideal.ieee]
  have hw := which_at 0x00000000#32 0 (by rw [hz]; simp) j
  have et := scalar1_at (constant S_ .f32 0xFF800000#32 : FVec Ideal S_ .f32) j
  have ee := scalar1_at (constant S_ .f32 0x00000000#32 : FVec Ideal S_ .f32) j
  show Scalar.select (cmpf .oeq (sitofp .f32 (iotaInDim S32 32 0) : FVec Ideal S32 .f32)
      (broadcastInDim S32 ![] bcast_S_S32 (constant S_ .f32 0x00000000#32)) (ix1 j))
    ((broadcastInDim S32 ![] bcast_S_S32 (constant S_ .f32 0xFF800000#32) : FVec Ideal S32 .f32) (ix1 j))
    ((broadcastInDim S32 ![] bcast_S_S32 (constant S_ .f32 0x00000000#32) : FVec Ideal S32 .f32) (ix1 j)) = _
  rw [hw, et, ee]
  by_cases h : j.val = 0
  · rw [if_pos h, decide_eq_true h]; exact (select_one _ _).trans hb
  · rw [if_neg h, decide_eq_false h]; exact (select_zero _ _).trans hz

/-- The upper clamps: none on the last bin, one on the others. -/
theorem highClamp_at (c : Dev nD) (f j : Fin 32) :
    V m c main_v28 (ix3 f j (0 : Fin 1)) = (if j.val = 31 then ⊤ else 1 : EReal) := by
  rw [highClamp_eq]
  refine (column_at _ f j).trans ((outer_at _ f j).trans ?_)
  have h31 : (Ideal.ofBits .f32 0x41F80000#32 : EReal) = (((31 : ℕ) : ℝ) : EReal) := by
    simp [Ideal.ofBits, Ideal.ieee, -EReal.coe_mul]; norm_num
  have h1 : (Ideal.ofBits .f32 0x3F800000#32 : EReal) = 1 := by
    simp [Ideal.ofBits, Ideal.ieee, -EReal.coe_mul]; norm_num
  have hb : (Ideal.ofBits .f32 0x7F800000#32 : EReal) = ⊤ := by simp [Ideal.ofBits, Ideal.ieee]
  have hw := which_at 0x41F80000#32 31 h31 j
  have et := scalar1_at (constant S_ .f32 0x7F800000#32 : FVec Ideal S_ .f32) j
  have ee := scalar1_at (constant S_ .f32 0x3F800000#32 : FVec Ideal S_ .f32) j
  show Scalar.select (cmpf .oeq (sitofp .f32 (iotaInDim S32 32 0) : FVec Ideal S32 .f32)
      (broadcastInDim S32 ![] bcast_S_S32 (constant S_ .f32 0x41F80000#32)) (ix1 j))
    ((broadcastInDim S32 ![] bcast_S_S32 (constant S_ .f32 0x7F800000#32) : FVec Ideal S32 .f32) (ix1 j))
    ((broadcastInDim S32 ![] bcast_S_S32 (constant S_ .f32 0x3F800000#32) : FVec Ideal S32 .f32) (ix1 j)) = _
  rw [hw, et, ee]
  by_cases h : j.val = 31
  · rw [if_pos h, decide_eq_true h]; exact (select_one _ _).trans hb
  · rw [if_neg h, decide_eq_false h]; exact (select_zero _ _).trans h1

end Cert.KernelIdeal.KernelValue

end
-- ==== Proof.KernelValue.lean ====
/-
  The kernel over the extended reals, read at an index: the result at batch row `b`, channel `q` (feature `q / 32`, bin
  `q % 32`) and sample `l` is the clamped affine map of that bin at that feature's sample, `Cert.Encode.clamped`.
-/
module

public import proofs.«01_k».proof.Proof.Encode
public import proofs.«01_k».proof.Proof.Tables
public import Idealize.ShloMosaic.Lib.Pipeline.Value

@[expose] public section

set_option maxRecDepth 16384

noncomputable section

namespace Cert.KernelIdeal.KernelValue

open Cert.KernelIdeal Cert.KernelIdeal.Gen Idealize.ShloMosaic.TcCoe Idealize.ShloMosaic.ValueIdx Idealize.SL.Sem
open Idealize.ShloMosaic hiding ix1 ix2 ix3 ix4 eq_ix4
open Idealize.ShloMosaic.Pipeline (Dat)

variable (m : (ℓ : Loc nD τ sig) → Buf (Elt Ideal) ℓ) (ρ : Dev nD → PrngReg)

/-- A table spread over a block, read at an index: the table at the feature and the bin. -/
theorem spread_at (y : FVec Ideal S32x32x1 .f32) (b : Fin 4) (f j : Fin 32) (l : Fin 128) :
    broadcastTo S4x32x32x128 (shapeCast S1x32x32x1 (shapeCast S32x32x1 y shapeCasts_S32x32x1_S32x32x1)
        shapeCasts_S32x32x1_S1x32x32x1) broadcasts_S1x32x32x1_S4x32x32x128 (ix4 b f j l) = y (ix3 f j (0 : Fin 1)) :=
  ((broadcastTo_apply _ _ _ (ix4 (0 : Fin 1) f j (0 : Fin 1)) fun a => by
    match a with
    | ⟨0, _⟩ => rfl
    | ⟨1, _⟩ => rfl
    | ⟨2, _⟩ => rfl
    | ⟨3, _⟩ => rfl).trans
  (shapeCast_apply _ _ _ (ix3 f j (0 : Fin 1)) (by
    rw [Shape.rowMajor_val_three, Shape.rowMajor_val_four]
    show (f.val * 32 + j.val) * 1 + 0 = ((0 * 32 + f.val) * 32 + j.val) * 1 + 0; omega))).trans
  (shapeCast_apply _ _ _ (ix3 f j (0 : Fin 1)) rfl)

/-- A block of samples spread over the bins, read at an index. -/
theorem samples_at (x : FVec Ideal S4x32x128 .f32) (b : Fin 4) (f j : Fin 32) (l : Fin 128) :
    broadcastTo S4x32x32x128 (shapeCast S4x32x1x128 x shapeCasts_S4x32x128_S4x32x1x128)
        broadcasts_S4x32x1x128_S4x32x32x128 (ix4 b f j l) = x (ix3 b f l) :=
  (broadcastTo_apply _ _ _ (ix4 b f (0 : Fin 1) l) fun a => by
    match a with
    | ⟨0, _⟩ => rfl
    | ⟨1, _⟩ => rfl
    | ⟨2, _⟩ => rfl
    | ⟨3, _⟩ => rfl).trans
  (shapeCast_apply _ _ _ (ix3 b f l) (by
    rw [Shape.rowMajor_val_three, Shape.rowMajor_val_four]
    show (b.val * 32 + f.val) * 128 + l.val = ((b.val * 32 + f.val) * 1 + 0) * 128 + l.val; omega))

/-- What the body writes at an index of its block, from the blocks it reads. -/
theorem payload_at (x : Vec Ideal S4x32x128 .f32) (e a lo hi : Vec Ideal S32x32x1 .f32)
    (b : Fin 4) (f j : Fin 32) (l : Fin 128) :
    k0_pay1 (F := Ideal) x e a lo hi (ix4 b f j l)
      = (min (max (((x (ix3 b f l) : EReal) - e (ix3 f j (0 : Fin 1))) * a (ix3 f j (0 : Fin 1))) (lo (ix3 f j (0 : Fin 1))))
          (hi (ix3 f j (0 : Fin 1))) : EReal) := by
  have h0 := samples_at x b f j l
  have h1 := spread_at e b f j l
  have h2 := spread_at a b f j l
  have h3 := spread_at lo b f j l
  have h4 := spread_at hi b f j l
  rw [← h0, ← h1, ← h2, ← h3, ← h4]
  rfl

/-- Where each window's block stands at a grid point. -/
theorem idx : ∀ t : Fin cfg0.N, win0_0.index t = ![t.val, 0, 0] ∧ win0_1.index t = ![0, 0, 0] ∧ win0_2.index t = ![0, 0, 0]
    ∧ win0_3.index t = ![0, 0, 0] ∧ win0_4.index t = ![0, 0, 0] ∧ win0_5.index t = ![t.val, 0, 0, 0] :=
  (by decide +kernel : ∀ t : Fin grid0.N, _)

/-- The pipelined call's result as one array: at batch row `b`, feature `f`, bin `j`, sample `l`. -/
def encoded (x0 : (⟨S256x32x128, .f32⟩ : BufTy).Contents (Elt Ideal)) (x1 : (⟨S32x33, .f32⟩ : BufTy).Contents (Elt Ideal)) :
    (⟨S256x32x32x128, .f32⟩ : BufTy).Contents (Elt Ideal) :=
  fun i => Encode.clamped (row x1 (i 1)) (x0 (ix3 (i 0) (i 1) (i 3))) (i 2)

/-- A table's block is the whole table. -/
theorem table_at (c : Dev nD) (t : Fin cfg0.N) (f j : Fin 32) :
    iblk m c 1 t (ix3 f j (0 : Fin 1)) = V m c main_v25 (ix3 f j (0 : Fin 1))
    ∧ iblk m c 2 t (ix3 f j (0 : Fin 1)) = V m c main_v26 (ix3 f j (0 : Fin 1))
    ∧ iblk m c 3 t (ix3 f j (0 : Fin 1)) = V m c main_v27 (ix3 f j (0 : Fin 1))
    ∧ iblk m c 4 t (ix3 f j (0 : Fin 1)) = V m c main_v28 (ix3 f j (0 : Fin 1)) := by
  obtain ⟨-, h1, h2, h3, h4, -⟩ := idx t
  refine ⟨?_, ?_, ?_, ?_⟩
  · refine congrArg (V m c main_v25) (?_ : (win0_1.rect t).emb (ix3 f j (0 : Fin 1)) = _)
    funext a; apply Fin.ext
    refine (Pipeline.Window.rect_emb_val win0_1 t _ a).trans ?_
    rw [h1]
    match a with
    | ⟨0, _⟩ => show 0 * 32 + f.val = f.val; omega
    | ⟨1, _⟩ => show 0 * 32 + j.val = j.val; omega
    | ⟨2, _⟩ => rfl
  · refine congrArg (V m c main_v26) (?_ : (win0_2.rect t).emb (ix3 f j (0 : Fin 1)) = _)
    funext a; apply Fin.ext
    refine (Pipeline.Window.rect_emb_val win0_2 t _ a).trans ?_
    rw [h2]
    match a with
    | ⟨0, _⟩ => show 0 * 32 + f.val = f.val; omega
    | ⟨1, _⟩ => show 0 * 32 + j.val = j.val; omega
    | ⟨2, _⟩ => rfl
  · refine congrArg (V m c main_v27) (?_ : (win0_3.rect t).emb (ix3 f j (0 : Fin 1)) = _)
    funext a; apply Fin.ext
    refine (Pipeline.Window.rect_emb_val win0_3 t _ a).trans ?_
    rw [h3]
    match a with
    | ⟨0, _⟩ => show 0 * 32 + f.val = f.val; omega
    | ⟨1, _⟩ => show 0 * 32 + j.val = j.val; omega
    | ⟨2, _⟩ => rfl
  · refine congrArg (V m c main_v28) (?_ : (win0_4.rect t).emb (ix3 f j (0 : Fin 1)) = _)
    funext a; apply Fin.ext
    refine (Pipeline.Window.rect_emb_val win0_4 t _ a).trans ?_
    rw [h4]
    match a with
    | ⟨0, _⟩ => show 0 * 32 + f.val = f.val; omega
    | ⟨1, _⟩ => show 0 * 32 + j.val = j.val; omega
    | ⟨2, _⟩ => rfl

/-- What the body leaves at a grid point is that point's block of `encoded`. -/
theorem point (c : Dev nD) (t : Fin cfg0.N) (y : S4x32x32x128.Idx) :
    k0_pay1 (F := Ideal) (iblk m c 0 t) (iblk m c 1 t) (iblk m c 2 t) (iblk m c 3 t) (iblk m c 4 t) y
      = encoded (m ((c : Thread nD τ).loc main_arg0)) (m ((c : Thread nD τ).loc main_arg1)) ((win0_5.rect t).emb y) := by
  obtain ⟨h0, -, -, -, -, h5⟩ := idx t
  obtain ⟨b, f, j, l, rfl⟩ : ∃ (b : Fin 4) (f j : Fin 32) (l : Fin 128), y = ix4 b f j l := ⟨_, _, _, _, eq_ix4 y⟩
  rw [payload_at, (table_at m c t f j).1, (table_at m c t f j).2.1, (table_at m c t f j).2.2.1, (table_at m c t f j).2.2.2,
    lower_at, recip_at, lowClamp_at, highClamp_at]
  have ht : t.val < 64 := t.isLt
  have hb := b.isLt
  have hr : t.val * 4 + b.val < 256 := by omega
  have e5 : (win0_5.rect t).emb (ix4 b f j l) = ix4 (⟨t.val * 4 + b.val, hr⟩ : Fin 256) f j l := by
    funext a; apply Fin.ext
    refine (Pipeline.Window.rect_emb_val win0_5 t _ a).trans ?_
    rw [h5]
    match a with
    | ⟨0, _⟩ => rfl
    | ⟨1, _⟩ => show 0 * 32 + f.val = f.val; omega
    | ⟨2, _⟩ => show 0 * 32 + j.val = j.val; omega
    | ⟨3, _⟩ => show 0 * 128 + l.val = l.val; omega
  have e0 : iblk m c 0 t (ix3 b f l) = m ((c : Thread nD τ).loc main_arg0) (ix3 (⟨t.val * 4 + b.val, hr⟩ : Fin 256) f l) := by
    rw [← V_main_arg0 m c]
    refine congrArg (V m c main_arg0) (?_ : (win0_0.rect t).emb (ix3 b f l) = _)
    funext a; apply Fin.ext
    refine (Pipeline.Window.rect_emb_val win0_0 t _ a).trans ?_
    rw [h0]
    match a with
    | ⟨0, _⟩ => rfl
    | ⟨1, _⟩ => show 0 * 32 + f.val = f.val; omega
    | ⟨2, _⟩ => show 0 * 128 + l.val = l.val; omega
  rw [e5, e0]
  rfl

/-- The pipelined call's result array. -/
theorem final (c : Dev nD) :
    (dats m 0 c).arrAt 5 cfg0.N = encoded (m ((c : Thread nD τ).loc main_arg0)) (m ((c : Thread nD τ).loc main_arg1)) := by
  refine (dats m 0 c).arrAt_eq_of_covers 5 _ (by decide +kernel) fun t _ y => ?_
  blk_simp
  rw [after0_5]; frame_out
  exact point m c t y

/-- The result after the trailing reshape. -/
abbrev result (c : Dev nD) : Buf (Elt Ideal) ((c : Thread nD τ).loc main_v30) :=
  shapeCast S256x1024x128 (encoded (m ((c : Thread nD τ).loc main_arg0)) (m ((c : Thread nD τ).loc main_arg1)))
    shapeCasts_S256x32x32x128_S256x1024x128

/-- What the lines after the pipelined call leave in the result. -/
theorem tail_eq (c : Dev nD) : Pipeline.afterTail₀ cfgs (dats m) 0 (V0 m) [hostOps1] c main_v30 = result m c := by
  unfold Pipeline.afterTail₀
  simp only [hostOps1, List.flatten_cons, List.flatten_nil, List.append_nil]
  after_results
  have h : Pipeline.withArrays (cfgs 0).spec c (V0 m c) (fun w => (dats m 0 c).arrAt w (cfgs 0).N) (Proc.tc.devRef main_v29)
      = encoded (m ((c : Thread nD τ).loc main_arg0)) (m ((c : Thread nD τ).loc main_arg1)) :=
    (Pipeline.withArrays_arr (cfgs 0).spec launch0.win.arr_inj c (V0 m c) (fun w => (dats m 0 c).arrAt w (cfgs 0).N) 5).trans
      (final m c)
  rw [h]
  rfl

/-- The run: the result array at `result`, the argument arrays unchanged. -/
theorem run : θ_run defs (onTc (τ := τ) (main (F := Ideal))) ⟨m, fun _ => 0, ρ⟩ fun r => ∀ c : Dev nD,
      r.2.mem ((c.tc : Thread nD τ).loc main_v30) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v30 (Pipeline.mem_restRefs_of main_v30 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

/-- The kernel's result at batch row `b`, channel `q` and position `l`. -/
theorem result_at (c : Dev nD) (b : Fin 256) (q : Fin 1024) (l : Fin 128) :
    result m c (ix3 b q l)
      = Encode.clamped (row (m ((c : Thread nD τ).loc main_arg1)) (⟨q.val / 32, by omega⟩ : Fin 32))
          (m ((c : Thread nD τ).loc main_arg0) (ix3 b (⟨q.val / 32, by omega⟩ : Fin 32) l)) (⟨q.val % 32, by omega⟩ : Fin 32) :=
  (shapeCast_apply _ _ _ (ix4 b (⟨q.val / 32, by omega⟩ : Fin 32) (⟨q.val % 32, by omega⟩ : Fin 32) l) (by
    rw [Shape.rowMajor_val_three, Shape.rowMajor_val_four]
    show ((b.val * 32 + q.val / 32) * 32 + q.val % 32) * 128 + l.val = (b.val * 1024 + q.val) * 128 + l.val; omega)).trans rfl

end Cert.KernelIdeal.KernelValue

end
-- ==== Proof.AlongRow.lean ====
/-
  A gather that takes, in each row of a table, the entries at that row's list of column numbers, read at an index. This is
  the lookup `e[k]` of one feature's table at the bins of that feature's samples, done for every feature at once.
-/
module

public import Idealize.ShloMosaic.Lib.ValueIdxCore
public import Idealize.ShloMosaic.Lib.WordCmp

@[expose] public section

noncomputable section

namespace Cert.AlongRow

open Idealize.ShloMosaic Idealize.ShloMosaic.ValueIdx

variable {α : Type} {C N P : Nat}

/-- The lookup read at row `c`, position `p`: where the column number held there is the word of a number `k` below the
    table's width, the result is the table's entry at row `c`, column `k`. -/
theorem gather_apply (d : GatherDims ⟨2, ![C, N]⟩ ⟨3, ![C, P, 1]⟩ ⟨2, ![C, P]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![C, N]⟩ : Shape).Idx → α) (idx : IVec ⟨3, ![C, P, 1]⟩ 32) (c : Fin C) (p : Fin P) (k : Fin N)
    (hN : N ≤ 2 ^ 31) (hk : idx (ix3 c p (0 : Fin 1)) = BitVec.ofNat 32 k.val) :
    Host.gather d x idx (ix2 c p) = x (ix2 c k) := by
  obtain ⟨offsetDims, collapsedSliceDims, operandBatchingDims, startIndicesBatchingDims, startIndexMap, indexVectorDim,
    sliceSizes, wf⟩ := d
  dsimp only at hoff hcoll hob hsb hsim hivd
  subst hoff hcoll hob hsb hsim hivd
  unfold Host.gather
  refine congrArg x (funext fun a => Fin.ext ?_)
  have h01 : a = 0 ∨ a = 1 := by
    match a with
    | ⟨0, _⟩ => exact Or.inl rfl
    | ⟨1, _⟩ => exact Or.inr rfl
  rcases h01 with rfl | rfl
  · -- the row: the batching axis
    show GatherDims.start _ _ _ _ + GatherDims.batchCoord _ _ _ + GatherDims.offCoord _ _ _ = c.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · -- the column: the axis the column number names
    show GatherDims.start _ _ _ _ + GatherDims.batchCoord _ _ _ + GatherDims.offCoord _ _ _ = k.val
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsl : sliceSizes 1 = 1 := wf.2.2.2.2.2.2.2.2.2.2.2.1 1 (List.mem_singleton.mpr rfl)
    have hsi : GatherDims.siIdx (s := ⟨2, ![C, N]⟩) (si := ⟨3, ![C, P, 1]⟩) (t := ⟨2, ![C, P]⟩)
        ⟨[], [1], [0], [0], [1], 2, sliceSizes, wf⟩ (ix2 c p) ⟨List.idxOf (1 : Fin 2) [1],
          List.idxOf_lt_length_iff.2 (List.mem_singleton.mpr rfl)⟩ = ix3 c p (0 : Fin 1) := by
      funext b; refine Fin.ext ?_
      match b with
      | ⟨0, _⟩ => rfl
      | ⟨1, _⟩ => rfl
      | ⟨2, _⟩ => rfl
    have hkN := k.isLt
    show min (idx (GatherDims.siIdx (s := ⟨2, ![C, N]⟩) (si := ⟨3, ![C, P, 1]⟩) (t := ⟨2, ![C, P]⟩)
        ⟨[], [1], [0], [0], [1], 2, sliceSizes, wf⟩ (ix2 c p) ⟨List.idxOf (1 : Fin 2) [1], _⟩)).toInt.toNat (N - sliceSizes 1) = k.val
    rw [hsi, hk, hsl, WordCmp.toInt_ofNat_of_lt (by omega)]
    simp only [Int.toNat_natCast]
    omega

end Cert.AlongRow

end
-- ==== Proof.RefValue.lean ====
/-
  The reference program over the extended reals, read at an index: the result at batch row `b`, channel `q` (feature
  `q / 32`, bin `q % 32`) and sample `l` is the digitised encoding of that feature's sample, `Cert.Encode.digitised`.
-/
module

public import proofs.«01_k».proof.Proof.Encode
public import proofs.«01_k».proof.Proof.AlongRow
public import proofs.«01_k».proof.Proof.Gen.ReferenceIdeal.Read
public import Idealize.ShloMosaic.Lib.IndicatorCount
public import Idealize.ShloMosaic.Lib.WordCmp

@[expose] public section

set_option maxRecDepth 16384

noncomputable section

namespace Cert.ReferenceIdeal.RefValue

open Cert.ReferenceIdeal Cert.ReferenceIdeal.Gen Cert.ReferenceIdeal.Read Idealize.ShloMosaic Idealize.ShloMosaic.ValueIdx

/-- The samples: batch row, feature, position. -/
abbrev Samples := (⟨S256x32x128, .f32⟩ : BufTy).Contents (Elt Ideal)
/-- The bin edges: feature, edge. -/
abbrev Edges := (⟨S32x33, .f32⟩ : BufTy).Contents (Elt Ideal)

/-- One feature's edges. -/
def row (x1 : Edges) (c : Fin 32) : Fin 33 → EReal := fun k => x1 (ix2 c k)

/-- The sample at row `p` of the flattened samples (batch row `p / 128`, position `p % 128`) and feature `c`. -/
def sample (x0 : Samples) (p : Fin 32768) (c : Fin 32) : EReal :=
  x0 (ix3 (⟨p.val / 128, by omega⟩ : Fin 256) c (⟨p.val % 128, by omega⟩ : Fin 128))

/-- The bin of that sample. -/
abbrev binAt (x0 : Samples) (x1 : Edges) (p : Fin 32768) (c : Fin 32) : ℕ := Encode.bin (row x1 c) (sample x0 p c)

/-- The flattened samples are the samples. -/
theorem flat_at (x0 : Samples) (p : Fin 32768) (c : Fin 32) : val_main_v1 (F := Ideal) x0 (ix2 p c) = sample x0 p c := by
  rw [val_main_v1_apply, val_main_v0_apply]
  unfold sample
  refine congrArg x0 (funext fun a => Fin.ext ?_)
  have hp := p.isLt; have hc := c.isLt
  match a with
  | ⟨0, _⟩ => show (p.val * 32 + c.val) / 4096 = p.val / 128; omega
  | ⟨1, _⟩ => show (p.val * 32 + c.val) % 32 = c.val; omega
  | ⟨2, _⟩ => show (p.val * 32 + c.val) / 32 % 128 = p.val % 128; omega

/-- The inner edge a comparison looks at. -/
theorem edge_at (x1 : Edges) (c : Fin 32) (p : Fin 32768) (k : Fin 31) :
    val_main_v6 (F := Ideal) x1 (ix3 c p k) = row x1 c k.castSucc.succ := by
  rw [val_main_v6_apply, val_main_v3_apply, val_main_v2_apply]
  unfold row
  refine congrArg x1 (funext fun a => Fin.ext ?_)
  match a with
  | ⟨0, _⟩ => rfl
  | ⟨1, _⟩ => show 1 + k.val = k.val + 1; omega

/-- The sample a comparison looks at. -/
theorem compared_at (x0 : Samples) (c : Fin 32) (p : Fin 32768) (k : Fin 31) :
    val_main_v7 (F := Ideal) x0 (ix3 c p k) = sample x0 p c := by
  rw [val_main_v7_apply, val_main_v5_apply, val_main_v4_apply, ← flat_at]
  refine congrArg _ (funext fun a => Fin.ext ?_)
  match a with
  | ⟨0, _⟩ => rfl
  | ⟨1, _⟩ => rfl

/-- The comparison of an inner edge with the sample. -/
theorem bit_at (x0 : Samples) (x1 : Edges) (c : Fin 32) (p : Fin 32768) (k : Fin 31) :
    val_main_v8 (F := Ideal) x0 x1 (ix3 c p k)
      = BitVec.ofBool (decide (row x1 c k.castSucc.succ ≤ sample x0 p c)) := by
  rw [val_main_v8_apply, edge_at, compared_at]
  rfl

/-- The sum of the comparisons is the word of the bin. -/
theorem count_at (x0 : Samples) (x1 : Edges) (c : Fin 32) (p : Fin 32768) :
    val_main_v10 (F := Ideal) x0 x1 (ix2 c p) = BitVec.ofNat 32 (binAt x0 x1 p c) := by
  unfold val_main_v10
  rw [Host.reduce_eq_fold_single IntOp.addi _ _ _ (by decide : S32x32768x31.Reduces [2] S32x32768) _ _]
  have hf : (val_main_v9 (F := Ideal) x0 x1 ∘ (by decide : S32x32768x31.Reduces [2] S32x32768).lift (ix2 c p))
      = fun k : Fin 31 => (BitVec.ofBool (decide (row x1 c k.castSucc.succ ≤ sample x0 p c))).setWidth 32 := by
    funext k
    show val_main_v9 (F := Ideal) x0 x1 _ = _
    rw [val_main_v9_apply, ← bit_at x0 x1 c p k]
    refine congrArg (fun i => (val_main_v8 (F := Ideal) x0 x1 i).setWidth 32) (funext fun a => Fin.ext ?_)
    match a with
    | ⟨0, _⟩ => rfl
    | ⟨1, _⟩ => rfl
    | ⟨2, _⟩ => rfl
  erw [hf]
  refine (IndicatorCount.fold_addi_setWidth_eq_card
    (fun k : Fin 31 => BitVec.ofBool (decide (row x1 c k.castSucc.succ ≤ sample x0 p c))) Finset.univ).trans ?_
  unfold binAt Encode.bin
  refine congrArg (fun S : Finset (Fin 31) => BitVec.ofNat 32 S.card) (Finset.filter_congr fun k _ => ?_)
  by_cases h : row x1 c k.castSucc.succ ≤ sample x0 p c <;> simp [h]

/-- The bins, one row per sample position. -/
theorem bins_at (x0 : Samples) (x1 : Edges) (p : Fin 32768) (c : Fin 32) :
    val_main_v11 (F := Ideal) x0 x1 (ix2 p c) = BitVec.ofNat 32 (binAt x0 x1 p c) := by
  rw [val_main_v11_apply, ← count_at]
  refine congrArg _ (funext fun a => Fin.ext ?_)
  match a with
  | ⟨0, _⟩ => rfl
  | ⟨1, _⟩ => rfl

/-- A bin is not a negative number. -/
theorem bin_not_neg (e : Fin 33 → EReal) (x : EReal) : IntOp.cmpi .slt (BitVec.ofNat 32 (Encode.bin e x)) 0#32 = 0#1 := by
  have h := Encode.bin_lt e x
  exact (WordCmp.cmpi_slt_ofNat_eq_zero_iff (a := Encode.bin e x) (b := 0) (by omega) (by omega)).mpr (by omega)

/-- The column numbers of the first lookup are the bins. -/
theorem col_at (x0 : Samples) (x1 : Edges) (c : Fin 32) (p : Fin 32768) :
    val_main_v21 (F := Ideal) x0 x1 (ix3 c p (0 : Fin 1)) = BitVec.ofNat 32 (binAt x0 x1 p c) := by
  rw [val_main_v21_apply, val_main_v20_apply]
  have hi : idx_main_v20 (idx_main_v21 (ix3 c p (0 : Fin 1))) = ix2 p c := by
    funext a
    match a with
    | ⟨0, _⟩ => rfl
    | ⟨1, _⟩ => rfl
  rw [hi, val_main_v19_apply, val_main_v16_apply, bins_at, val_main_v15_apply, val_main_c_0_apply, bin_not_neg, select_zero]

/-- The column numbers of the second lookup are the bins. -/
theorem col'_at (x0 : Samples) (x1 : Edges) (c : Fin 32) (p : Fin 32768) :
    val_main_v31 (F := Ideal) x0 x1 (ix3 c p (0 : Fin 1)) = BitVec.ofNat 32 (binAt x0 x1 p c) := by
  rw [val_main_v31_apply, val_main_v30_apply]
  have hi : idx_main_v30 (idx_main_v31 (ix3 c p (0 : Fin 1))) = ix2 p c := by
    funext a
    match a with
    | ⟨0, _⟩ => rfl
    | ⟨1, _⟩ => rfl
  rw [hi, val_main_v29_apply, val_main_v26_apply, bins_at, val_main_v25_apply, val_main_c_2_apply, bin_not_neg, select_zero]

/-- The lower edge of the sample's bin. -/
theorem lower_at (x0 : Samples) (x1 : Edges) (c : Fin 32) (p : Fin 32768) :
    val_main_v22 (F := Ideal) x0 x1 (ix2 c p) = row x1 c (Encode.binIdx (row x1 c) (sample x0 p c)).castSucc := by
  unfold val_main_v22
  exact AlongRow.gather_apply _ rfl rfl rfl rfl rfl rfl x1 _ c p _ (by decide) (col_at x0 x1 c p)

/-- The width of a bin. -/
theorem width_at (x1 : Edges) (c : Fin 32) (k : Fin 32) :
    val_main_v14 (F := Ideal) x1 (ix2 c k) = row x1 c k.succ - row x1 c k.castSucc := by
  rw [val_main_v14_apply, val_main_v12_apply, val_main_v13_apply]
  have h1 : idx_main_v12 (ix2 c k) = ix2 c k.succ := by
    funext a; apply Fin.ext
    match a with
    | ⟨0, _⟩ => rfl
    | ⟨1, _⟩ => show 1 + k.val = k.val + 1; omega
  have h0 : idx_main_v13 (ix2 c k) = ix2 c k.castSucc := by
    funext a; apply Fin.ext
    match a with
    | ⟨0, _⟩ => rfl
    | ⟨1, _⟩ => rfl
  rw [h1, h0]
  rfl

/-- The width of the sample's bin. -/
theorem binWidth_at (x0 : Samples) (x1 : Edges) (c : Fin 32) (p : Fin 32768) :
    val_main_v32 (F := Ideal) x0 x1 (ix2 c p)
      = row x1 c (Encode.binIdx (row x1 c) (sample x0 p c)).succ
        - row x1 c (Encode.binIdx (row x1 c) (sample x0 p c)).castSucc := by
  unfold val_main_v32
  exact (AlongRow.gather_apply _ rfl rfl rfl rfl rfl rfl (val_main_v14 (F := Ideal) x1) _ c p _ (by decide)
    (col'_at x0 x1 c p)).trans (width_at x1 c _)

/-- The sample's place inside its bin, as a part of the bin's width. -/
theorem part_at (x0 : Samples) (x1 : Edges) (c : Fin 32) (p : Fin 32768) :
    val_main_v33 (F := Ideal) x0 x1 (ix2 c p)
      = Ideal.div (sample x0 p c - row x1 c (Encode.binIdx (row x1 c) (sample x0 p c)).castSucc)
          (row x1 c (Encode.binIdx (row x1 c) (sample x0 p c)).succ
            - row x1 c (Encode.binIdx (row x1 c) (sample x0 p c)).castSucc) := by
  have hi : idx_main_v23 (ix2 c p) = ix2 p c := by
    funext a
    match a with
    | ⟨0, _⟩ => rfl
    | ⟨1, _⟩ => rfl
  rw [val_main_v33_apply, val_main_v24_apply, val_main_v23_apply, hi, flat_at, lower_at, binWidth_at]
  rfl

/-- The bins spread along the last axis. -/
theorem spread_at (x0 : Samples) (x1 : Edges) (p : Fin 32768) (c j : Fin 32) :
    val_main_v43 (F := Ideal) x0 x1 (ix3 p c j) = BitVec.ofNat 32 (binAt x0 x1 p c) := by
  rw [val_main_v43_apply, val_main_v41_apply, ← bins_at]
  refine congrArg _ (funext fun a => ?_)
  match a with
  | ⟨0, _⟩ => rfl
  | ⟨1, _⟩ => rfl

/-- The bins spread along the last axis, for the one-hot rows. -/
theorem spread'_at (x0 : Samples) (x1 : Edges) (p : Fin 32768) (c j : Fin 32) :
    val_main_call0_v2 (F := Ideal) x0 x1 (ix3 p c j) = BitVec.ofNat 32 (binAt x0 x1 p c) := by
  rw [val_main_call0_v2_apply, val_main_call0_v0_apply, ← bins_at]
  refine congrArg _ (funext fun a => ?_)
  match a with
  | ⟨0, _⟩ => rfl
  | ⟨1, _⟩ => rfl

/-- The one-hot row of a bin. -/
theorem oneHot_at (x0 : Samples) (x1 : Edges) (p : Fin 32768) (c j : Fin 32) :
    val_main_v35 (F := Ideal) x0 x1 (ix3 p c j) = if binAt x0 x1 p c = j.val then (1 : EReal) else 0 := by
  have hb := Encode.bin_lt (row x1 c) (sample x0 p c)
  have hj := j.isLt
  rw [val_main_v35_apply, val_main_call0_v4_apply, spread'_at, val_main_call0_v3_apply, val_main_call0_v1_apply]
  show ((((IntOp.cmpi .eq (BitVec.ofNat 32 (binAt x0 x1 p c)) (BitVec.ofNat 32 j.val)).toNat : ℝ)) : EReal) = _
  rw [WordCmp.cmpi_eq_ofNat (show Encode.bin (row x1 c) (sample x0 p c) < 2 ^ 32 by omega) (show j.val < 2 ^ 32 by omega)]
  by_cases h : binAt x0 x1 p c = j.val <;> simp [h]

/-- The sample's part of its bin, spread along the last axis. -/
theorem partSpread_at (x0 : Samples) (x1 : Edges) (p : Fin 32768) (c j : Fin 32) :
    val_main_v37 (F := Ideal) x0 x1 (ix3 p c j) = val_main_v33 (F := Ideal) x0 x1 (ix2 c p) := by
  rw [val_main_v37_apply, val_main_v36_apply, val_main_v34_apply]
  refine congrArg _ (funext fun a => ?_)
  match a with
  | ⟨0, _⟩ => rfl
  | ⟨1, _⟩ => rfl

/-- The 32-bit pattern of one is one. -/
theorem one_bits : (FloatOps.ofBits (F := Ideal) .f32 0x3F800000#32 : EReal) = 1 := by
  show Ideal.ofBits .f32 0x3F800000#32 = 1
  simp [Ideal.ofBits, Ideal.ieee, -EReal.coe_mul]; norm_num

/-- The encoding of a flattened sample. -/
theorem encoded_at (x0 : Samples) (x1 : Edges) (p : Fin 32768) (c j : Fin 32) :
    val_main_v45 (F := Ideal) x0 x1 (ix3 p c j) = Encode.digitised (row x1 c) (sample x0 p c) j := by
  have hb := Encode.bin_lt (row x1 c) (sample x0 p c)
  have hj := j.isLt
  have hcmp : val_main_v44 (F := Ideal) x0 x1 (ix3 p c j) = BitVec.ofBool (decide (j.val < binAt x0 x1 p c)) := by
    rw [val_main_v44_apply, spread_at, val_main_v42_apply, val_main_v40_apply, val_main_v39_apply]
    exact WordCmp.cmpi_slt_ofNat (a := j.val) (b := Encode.bin (row x1 c) (sample x0 p c)) (by omega) (by omega)
  rw [val_main_v45_apply, hcmp, val_main_call1_v1_apply, val_main_call1_v0_apply, val_main_cst_apply, one_bits,
    val_main_v38_apply, oneHot_at, partSpread_at, part_at]
  unfold Encode.digitised
  by_cases h : j.val < binAt x0 x1 p c
  · rw [if_pos h, decide_eq_true h]; exact select_one _ _
  · rw [if_neg h, decide_eq_false h]; exact select_zero _ _

/-- The reference's result at batch row `b`, channel `q` and position `l`. -/
theorem result_at (x0 : Samples) (x1 : Edges) (b : Fin 256) (q : Fin 1024) (l : Fin 128) :
    val_main_v47 (F := Ideal) x0 x1 (ix3 b q l)
      = Encode.digitised (row x1 (⟨q.val / 32, by omega⟩ : Fin 32)) (x0 (ix3 b (⟨q.val / 32, by omega⟩ : Fin 32) l))
          (⟨q.val % 32, by omega⟩ : Fin 32) := by
  have hb := b.isLt; have hq := q.isLt; have hl := l.isLt
  have hp : b.val * 128 + l.val < 32768 := by omega
  rw [val_main_v47_apply, val_main_v46_apply]
  have hi : idx_main_v46 (idx_main_v47 (ix3 b q l))
      = ix3 (⟨b.val * 128 + l.val, hp⟩ : Fin 32768) (⟨q.val / 32, by omega⟩ : Fin 32) (⟨q.val % 32, by omega⟩ : Fin 32) := by
    funext a; apply Fin.ext
    match a with
    | ⟨0, _⟩ => show ((b.val * 128 + l.val) * 1024 + q.val) / 1024 = b.val * 128 + l.val; omega
    | ⟨1, _⟩ => show ((b.val * 128 + l.val) * 1024 + q.val) / 32 % 32 = q.val / 32; omega
    | ⟨2, _⟩ => show ((b.val * 128 + l.val) * 1024 + q.val) % 32 = q.val % 32; omega
  rw [hi, encoded_at]
  have hs : sample x0 (⟨b.val * 128 + l.val, hp⟩ : Fin 32768) (⟨q.val / 32, by omega⟩ : Fin 32)
      = x0 (ix3 b (⟨q.val / 32, by omega⟩ : Fin 32) l) := by
    unfold sample
    refine congrArg x0 (funext fun a => Fin.ext ?_)
    match a with
    | ⟨0, _⟩ => show (b.val * 128 + l.val) / 128 = b.val; omega
    | ⟨1, _⟩ => rfl
    | ⟨2, _⟩ => show (b.val * 128 + l.val) % 128 = l.val; omega
  rw [hs]

end Cert.ReferenceIdeal.RefValue

end
-- ==== Proof.Pre.lean ====
/-
  What the precondition says of the edges: in every feature's row they strictly increase, and the first lies above −∞.
-/
module

public import proofs.«01_k».proof.Proof.Gen.Pre_edges_increase
public import Idealize.ShloMosaic.Lib.ReduceAll
public import Idealize.ShloMosaic.PureOps.Ideal
public import Idealize.ShloMosaic.Lib.ValueIdxCore
public import Idealize.ShloMosaic.Lib.Pipeline.Value
public import Mathlib.Order.Fin.Basic

@[expose] public section

set_option maxRecDepth 16384

noncomputable section

namespace Cert.Pre_edges_increase.Edges

open Cert.Pre_edges_increase Cert.Pre_edges_increase.Gen Idealize.ShloMosaic Idealize.ShloMosaic.ValueIdx

/-- An array of rank zero has one index. -/
theorem subsingleton_scalar : Subsingleton S_.Idx := ⟨fun a b => funext fun k => k.elim0⟩

attribute [local instance] subsingleton_scalar

/-- Where an and of two bits is one, both are. -/
theorem both_of_andi {a b : BitVec 1} (h : a &&& b = 1#1) : a = 1#1 ∧ b = 1#1 := by
  revert h; revert a b; decide

/-- The 32-bit pattern of −∞ is the least extended real. -/
theorem bot_bits : (Ideal.ofBits .f32 0xFF800000#32 : EReal) = ⊥ := by
  simp [Ideal.ofBits, Ideal.ieee]

/-- Under the precondition, each row of edges strictly increases and its first edge lies above −∞. -/
theorem increasing {x0 : FVec Ideal S256x32x128 .f32} {x1 : FVec Ideal S32x33 .f32}
    (h : fn (F := Ideal) x0 x1 = fun _ => 1#1) (c : Fin 32) :
    StrictMono (fun k : Fin 33 => (x1 (ix2 c k) : EReal)) ∧ (⊥ : EReal) < x1 (ix2 c (0 : Fin 33)) := by
  have hand := congrFun h (Shape.Idx.first h_S_)
  obtain ⟨hA, hB⟩ := both_of_andi hand
  constructor
  · rw [Fin.strictMono_iff_lt_succ]
    intro i
    have e := Host.reduce_andi_all _ _ _ _ _ hA (ix2 c i)
    have e0 : extractStridedSlice S32x32 ![0, 0] x1 slices_S32x33_S32x32_0_0 (ix2 c i) = x1 (ix2 c i.castSucc) :=
      extractStridedSlice_apply _ x1 _ _ _ fun a => by
        match a with
        | ⟨0, _⟩ => show c.val = 0 + c.val; omega
        | ⟨1, _⟩ => show i.val = 0 + i.val; omega
    have e1 : extractStridedSlice S32x32 ![0, 1] x1 slices_S32x33_S32x32_0_1 (ix2 c i) = x1 (ix2 c i.succ) :=
      extractStridedSlice_apply _ x1 _ _ _ fun a => by
        match a with
        | ⟨0, _⟩ => show c.val = 0 + c.val; omega
        | ⟨1, _⟩ => show i.val + 1 = 1 + i.val; omega
    have e' : Ideal.cmp .olt (extractStridedSlice S32x32 ![0, 0] x1 slices_S32x33_S32x32_0_0 (ix2 c i))
        (extractStridedSlice S32x32 ![0, 1] x1 slices_S32x33_S32x32_0_1 (ix2 c i)) = 1#1 := e
    rw [e0, e1] at e'
    by_contra hn
    rw [show Ideal.cmp .olt (x1 (ix2 c i.castSucc)) (x1 (ix2 c i.succ)) = 0#1 by simp [Ideal.cmp, hn]] at e'
    exact absurd e' (by decide)
  · have e := Host.reduce_andi_all _ _ _ _ _ hB (ix1 c)
    have e0 : shapeCast S32 (extractStridedSlice S32x1 ![0, 0] x1 slices_S32x33_S32x1_0_0) shapeCasts_S32x1_S32 (ix1 c)
        = x1 (ix2 c (0 : Fin 33)) :=
      (shapeCast_apply _ shapeCasts_S32x1_S32 (ix1 c) (ix2 c (0 : Fin 1)) (by
        rw [Shape.rowMajor_val_two, Shape.rowMajor_val_one]; show c.val * 1 + 0 = c.val; omega)).trans
      (extractStridedSlice_apply _ x1 _ _ _ fun a => by
        match a with
        | ⟨0, _⟩ => show c.val = 0 + c.val; omega
        | ⟨1, _⟩ => rfl)
    have e' : Ideal.cmp .ogt (shapeCast S32 (extractStridedSlice S32x1 ![0, 0] x1 slices_S32x33_S32x1_0_0)
        shapeCasts_S32x1_S32 (ix1 c)) (Ideal.ofBits .f32 0xFF800000#32) = 1#1 := e
    rw [e0, bot_bits] at e'
    by_contra hn
    rw [show Ideal.cmp .ogt (x1 (ix2 c (0 : Fin 33))) ⊥ = 0#1 from
      congrArg BitVec.ofBool (decide_eq_false hn)] at e'
    exact absurd e' (by decide)

end Cert.Pre_edges_increase.Edges

end
-- ==== Proof.lean ====
/-
  The proof of `Cert.Claim`: the kernel runs and leaves its arguments and the semaphores as they were (bit-exactly and
  over the extended reals), so does the reference, the idealized kernel is the kernel's own text, and, where each feature's
  edges strictly increase from above −∞, the kernel and the reference compute the same array over the extended reals.

  The last is put together from: `Proof/KernelValue.lean` (the kernel's result read at an index is the clamped affine
  map of a bin), `Proof/RefValue.lean` (the reference's is the digitised encoding), `Proof/Pre.lean` (what the precondition
  says of the edges) and `Proof/Encode.lean` (the two are equal for such edges).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_edges_increase
public import proofs.«01_k».proof.Proof.Gen.ReferenceIdeal.Run
public import proofs.«01_k».proof.Proof.KernelValue
public import proofs.«01_k».proof.Proof.RefValue
public import proofs.«01_k».proof.Proof.Pre
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem
open Idealize.ShloMosaic.TcCoe

/-- The reference runs, leaves its arguments unchanged and every semaphore counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => ⟨(h c).2.1, (h c).2.2⟩,
    Idealize.ShloMosaic.sem_eq_zero_of_no_sems (by decide) r.2⟩) (Cert.ReferenceIdeal.Value.run (F := Ideal) m ρ)

/-- Where the precondition holds, the reference's result, as a function of the arguments, is the kernel's result. -/
theorem same_result (m : (ℓ : Loc Cert.KernelIdeal.nD Cert.KernelIdeal.τ Cert.KernelIdeal.sig) → Buf (Elt Ideal) ℓ)
    (h : Cert.Pre_KernelIdeal_edges_increase m) (c : Dev Cert.KernelIdeal.nD) :
    Cert.ReferenceIdeal.Read.val_main_v47 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.KernelValue.result m c := by
  funext i
  obtain ⟨b, q, l, rfl⟩ : ∃ (b : Fin 256) (q : Fin 1024) (l : Fin 128), i = ValueIdx.ix3 b q l :=
    ⟨_, _, _, ValueIdx.eq_ix3 i⟩
  obtain ⟨hmono, hbot⟩ := Cert.Pre_edges_increase.Edges.increasing (h c) (⟨q.val / 32, by omega⟩ : Fin 32)
  refine (Cert.ReferenceIdeal.RefValue.result_at _ _ b q l).trans ?_
  refine Eq.trans ?_ (Cert.KernelIdeal.KernelValue.result_at m c b q l).symm
  exact (Cert.Encode.clamped_eq_digitised hmono hbot _ _).symm

/-- Everything claimed. -/
theorem claim : Cert.Claim := ⟨Cert.Kernel.Gen.facts, Cert.KernelIdeal.Gen.facts, Cert.ReferenceIdeal.Gen.facts, Cert.Pre_edges_increase.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  trivial,
  fun m ρ m' ρ' hpre hargs => ⟨fun c => Cert.KernelIdeal.KernelValue.result m c,
    Cert.KernelIdeal.KernelValue.run m ρ,
    (θ_run Cert.ReferenceIdeal.defs _ _).mono (fun r h c => ⟨by
        refine (h c).1.trans ((Cert.ReferenceIdeal.Read.val_main_v47_eq m' c).trans ?_)
        rw [(hargs c).1, (hargs c).2]
        exact same_result m hpre c, (h c).2.1, (h c).2.2⟩)
      (Cert.ReferenceIdeal.Value.run (F := Ideal) m' ρ')⟩⟩

end Cert.Proof

end
